-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x20x32 : Shape := ⟨3, ![16, 20, 32]⟩
abbrev S16x20x2 : Shape := ⟨3, ![16, 20, 2]⟩
abbrev S32x32 : Shape := ⟨2, ![32, 32]⟩
abbrev S16x20x64x16x64 : Shape := ⟨5, ![16, 20, 64, 16, 64]⟩
abbrev S1x20x64x16x64 : Shape := ⟨5, ![1, 20, 64, 16, 64]⟩
abbrev S1x1x32 : Shape := ⟨3, ![1, 1, 32]⟩
abbrev S32 : Shape := ⟨1, ![32]⟩
abbrev S1x32 : Shape := ⟨2, ![1, 32]⟩
abbrev S1x1x1 : Shape := ⟨3, ![1, 1, 1]⟩
abbrev S2x32 : Shape := ⟨2, ![2, 32]⟩
abbrev S32x2 : Shape := ⟨2, ![32, 2]⟩
abbrev S16x1 : Shape := ⟨2, ![16, 1]⟩
abbrev S16x64 : Shape := ⟨2, ![16, 64]⟩
abbrev S64x16x64 : Shape := ⟨3, ![64, 16, 64]⟩
abbrev S1x16x64 : Shape := ⟨3, ![1, 16, 64]⟩
abbrev S1x1x64x16x64 : Shape := ⟨5, ![1, 1, 64, 16, 64]⟩
abbrev S16x20x64x64x16 : Shape := ⟨5, ![16, 20, 64, 64, 16]⟩

abbrev nBuf : Space → Nat
  | .hbm => 6
  | .vmem => 6
  | .smem => 0
  | _ => 0

abbrev bufTy : (tb : Table) → Fin (tcTables nBuf tb) → BufTy
  | .hbm, ⟨0, _⟩ => ⟨S16x20x32, .f32⟩
  | .hbm, ⟨1, _⟩ => ⟨S16x20x2, .f32⟩
  | .hbm, ⟨2, _⟩ => ⟨S16x20x2, .f32⟩
  | .hbm, ⟨3, _⟩ => ⟨S32x32, .f32⟩
  | .hbm, ⟨4, _⟩ => ⟨S16x20x64x16x64, .f32⟩
  | .hbm, ⟨5, _⟩ => ⟨S16x20x64x64x16, .f32⟩
  | .local _ .vmem, ⟨0, _⟩ => ⟨S16x20x32, .f32⟩
  | .local _ .vmem, ⟨1, _⟩ => ⟨S16x20x2, .f32⟩
  | .local _ .vmem, ⟨2, _⟩ => ⟨S16x20x2, .f32⟩
  | .local _ .vmem, ⟨3, _⟩ => ⟨S32x32, .f32⟩
  | .local _ .vmem, ⟨4, _⟩ => ⟨S1x20x64x16x64, .f32⟩
  | .local _ .vmem, ⟨5, _⟩ => ⟨S1x20x64x16x64, .f32⟩
  | _, _ => ⟨S16x20x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨2, ![16, 1], ![false, false]⟩

def k0_off1 (i : grid0.Coords) (c0_i32 : BitVec 32) : Fin 3 → Nat :=
  let arg0 : BitVec 32 := BitVec.ofNat 32 (i 0).val
  let v2 : Index := Scalar.indexCast arg0
  let arg1 : BitVec 32 := BitVec.ofNat 32 (i 1).val
  let c20_i32 : BitVec 32 := 20#32
  let v0 : BitVec 32 := Scalar.muli arg1 c20_i32
  let v1 : BitVec 32 := Scalar.addi v0 c0_i32
  let v3 : Index := Scalar.indexCast v1
  let c0 : Index := 0#32
  ![v2.toNat, v3.toNat, 0]
def k0_off2 (i : grid0.Coords) (c0_i32 : BitVec 32) : Fin 3 → Nat :=
  let arg0 : BitVec 32 := BitVec.ofNat 32 (i 0).val
  let v26 : Index := Scalar.indexCast arg0
  let arg1 : BitVec 32 := BitVec.ofNat 32 (i 1).val
  let c20_i32 : BitVec 32 := 20#32
  let v0 : BitVec 32 := Scalar.muli arg1 c20_i32
  let v1 : BitVec 32 := Scalar.addi v0 c0_i32
  let v27 : Index := Scalar.indexCast v1
  let c0_5 : Index := 0#32
  ![v26.toNat, v27.toNat, 0]
def k0_off3 (i : grid0.Coords) (c0_i32 : BitVec 32) : Fin 3 → Nat :=
  let arg0 : BitVec 32 := BitVec.ofNat 32 (i 0).val
  let v30 : Index := Scalar.indexCast arg0
  let arg1 : BitVec 32 := BitVec.ofNat 32 (i 1).val
  let c20_i32 : BitVec 32 := 20#32
  let v0 : BitVec 32 := Scalar.muli arg1 c20_i32
  let v1 : BitVec 32 := Scalar.addi v0 c0_i32
  let v31 : Index := Scalar.indexCast v1
  let c1 : Index := 1#32
  ![v30.toNat, v31.toNat, 1]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .vmem S16x20x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x20x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x20x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x20x64x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x20x32 : Shape := ⟨3, ![16, 20, 32]⟩
abbrev S16x20x2 : Shape := ⟨3, ![16, 20, 2]⟩
abbrev S16x20x16x2 : Shape := ⟨4, ![16, 20, 16, 2]⟩
abbrev S16x20x16x1 : Shape := ⟨4, ![16, 20, 16, 1]⟩
abbrev S16x20x16 : Shape := ⟨3, ![16, 20, 16]⟩
abbrev S16x20x1 : Shape := ⟨3, ![16, 20, 1]⟩
abbrev S5120 : Shape := ⟨1, ![5120]⟩
abbrev S16 : Shape := ⟨1, ![16]⟩
abbrev S16x320 : Shape := ⟨2, ![16, 320]⟩
abbrev S20 : Shape := ⟨1, ![20]⟩
abbrev S20x16 : Shape := ⟨2, ![20, 16]⟩
abbrev S320 : Shape := ⟨1, ![320]⟩
abbrev S1x320 : Shape := ⟨2, ![1, 320]⟩
abbrev S1x16 : Shape := ⟨2, ![1, 16]⟩
abbrev S320x16 : Shape := ⟨2, ![320, 16]⟩
abbrev S_ : Shape := ⟨0, ![]⟩
abbrev S16x20x64x64x16 : Shape := ⟨5, ![16, 20, 64, 64, 16]⟩
abbrev S5120x1 : Shape := ⟨2, ![5120, 1]⟩
abbrev S5120x5 : Shape := ⟨2, ![5120, 5]⟩

abbrev nBuf : Space → Nat
  | .hbm => 114
  | .vmem => 0
  | .smem => 0
  | _ => 0

abbrev bufTy : (tb : Table) → Fin (tcTables nBuf tb) → BufTy
  | .hbm, ⟨0, _⟩ => ⟨S16x20x32, .f32⟩
  | .hbm, ⟨1, _⟩ => ⟨S16x20x2, .f32⟩
  | .hbm, ⟨2, _⟩ => ⟨S16x20x2, .f32⟩
  | .hbm, ⟨3, _⟩ => ⟨S16x20x16x2, .f32⟩
  | .hbm, ⟨4, _⟩ => ⟨S16x20x16x1, .f32⟩
  | .hbm, ⟨5, _⟩ => ⟨S16x20x16, .f32⟩
  | .hbm, ⟨6, _⟩ => ⟨S16x20x1, .f32⟩
  | .hbm, ⟨7, _⟩ => ⟨S16x20x16, .f32⟩
  | .hbm, ⟨8, _⟩ => ⟨S16x20x16, .f32⟩
  | .hbm, ⟨9, _⟩ => ⟨S16x20x1, .f32⟩
  | .hbm, ⟨10, _⟩ => ⟨S16x20x16, .f32⟩
  | .hbm, ⟨11, _⟩ => ⟨S16x20x16, .f32⟩
  | .hbm, ⟨12, _⟩ => ⟨S16x20x16, .i32⟩
  | .hbm, ⟨13, _⟩ => ⟨S5120, .i32⟩
  | .hbm, ⟨14, _⟩ => ⟨S16x20x16x1, .f32⟩
  | .hbm, ⟨15, _⟩ => ⟨S16x20x16, .f32⟩
  | .hbm, ⟨16, _⟩ => ⟨S16x20x1, .f32⟩
  | .hbm, ⟨17, _⟩ => ⟨S16x20x16, .f32⟩
  | .hbm, ⟨18, _⟩ => ⟨S16x20x16, .f32⟩
  | .hbm, ⟨19, _⟩ => ⟨S16x20x1, .f32⟩
  | .hbm, ⟨20, _⟩ => ⟨S16x20x16, .f32⟩
  | .hbm, ⟨21, _⟩ => ⟨S16x20x16, .f32⟩
  | .hbm, ⟨22, _⟩ => ⟨S16x20x16, .i32⟩
  | .hbm, ⟨23, _⟩ => ⟨S5120, .i32⟩
  | .hbm, ⟨24, _⟩ => ⟨S16, .i32⟩
  | .hbm, ⟨25, _⟩ => ⟨S16x320, .i32⟩
  | .hbm, ⟨26, _⟩ => ⟨S5120, .i32⟩
  | .hbm, ⟨27, _⟩ => ⟨S20, .i32⟩
  | .hbm, ⟨28, _⟩ => ⟨S20x16, .i32⟩
  | .hbm, ⟨29, _⟩ => ⟨S320, .i32⟩
  | .hbm, ⟨30, _⟩ => ⟨S1x320, .i32⟩
  | .hbm, ⟨31, _⟩ => ⟨S16x320, .i32⟩
  | .hbm, ⟨32, _⟩ => ⟨S5120, .i32⟩
  | .hbm, ⟨33, _⟩ => ⟨S16, .i32⟩
  | .hbm, ⟨34, _⟩ => ⟨S1x16, .i32⟩
  | .hbm, ⟨35, _⟩ => ⟨S320x16, .i32⟩
  | .hbm, ⟨36, _⟩ => ⟨S5120, .i32⟩
  | .hbm, ⟨37, _⟩ => ⟨S_, .i32⟩
  | .hbm, ⟨38, _⟩ => ⟨S5120, .i32⟩
  | .hbm, ⟨39, _⟩ => ⟨S5120, .i1⟩
  | .hbm, ⟨40, _⟩ => ⟨S_, .i32⟩
  | .hbm, ⟨41, _⟩ => ⟨S5120, .i32⟩
  | .hbm, ⟨42, _⟩ => ⟨S5120, .i1⟩
  | .hbm, ⟨43, _⟩ => ⟨S5120, .i1⟩
  | .hbm, ⟨44, _⟩ => ⟨S_, .i32⟩
  | .hbm, ⟨45, _⟩ => ⟨S5120, .i32⟩
  | .hbm, ⟨46, _⟩ => ⟨S5120, .i1⟩
  | .hbm, ⟨47, _⟩ => ⟨S5120, .i1⟩
  | .hbm, ⟨48, _⟩ => ⟨S_, .i32⟩
  | .hbm, ⟨49, _⟩ => ⟨S5120, .i32⟩
  | .hbm, ⟨50, _⟩ => ⟨S5120, .i1⟩
  | .hbm, ⟨51, _⟩ => ⟨S5120, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S5120, .i32⟩
  | .hbm, ⟨56, _⟩ => ⟨S5120, .i32⟩
  | .hbm, ⟨57, _⟩ => ⟨S_, .i32⟩
  | .hbm, ⟨58, _⟩ => ⟨S5120, .i32⟩
  | .hbm, ⟨59, _⟩ => ⟨S5120, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S5120, .i32⟩
  | .hbm, ⟨64, _⟩ => ⟨S5120, .i32⟩
  | .hbm, ⟨65, _⟩ => ⟨S_, .i32⟩
  | .hbm, ⟨66, _⟩ => ⟨S5120, .i32⟩
  | .hbm, ⟨67, _⟩ => ⟨S5120, .i32⟩
  | .hbm, ⟨68, _⟩ => ⟨S5120, .i32⟩
  | .hbm, ⟨69, _⟩ => ⟨S_, .i32⟩
  | .hbm, ⟨70, _⟩ => ⟨S16x20x64x64x16, .i32⟩
  | .hbm, ⟨71, _⟩ => ⟨S_, .i32⟩
  | .hbm, ⟨72, _⟩ => ⟨S5120, .i32⟩
  | .hbm, ⟨73, _⟩ => ⟨S5120, .i1⟩
  | .hbm, ⟨74, _⟩ => ⟨S_, .i32⟩
  | .hbm, ⟨75, _⟩ => ⟨S5120, .i32⟩
  | .hbm, ⟨76, _⟩ => ⟨S5120, .i32⟩
  | .hbm, ⟨77, _⟩ => ⟨S5120, .i32⟩
  | .hbm, ⟨78, _⟩ => ⟨S_, .i32⟩
  | .hbm, ⟨79, _⟩ => ⟨S5120, .i32⟩
  | .hbm, ⟨80, _⟩ => ⟨S5120, .i1⟩
  | .hbm, ⟨81, _⟩ => ⟨S_, .i32⟩
  | .hbm, ⟨82, _⟩ => ⟨S5120, .i32⟩
  | .hbm, ⟨83, _⟩ => ⟨S5120, .i32⟩
  | .hbm, ⟨84, _⟩ => ⟨S5120, .i32⟩
  | .hbm, ⟨85, _⟩ => ⟨S_, .i32⟩
  | .hbm, ⟨86, _⟩ => ⟨S5120, .i32⟩
  | .hbm, ⟨87, _⟩ => ⟨S5120, .i1⟩
  | .hbm, ⟨88, _⟩ => ⟨S_, .i32⟩
  | .hbm, ⟨89, _⟩ => ⟨S5120, .i32⟩
  | .hbm, ⟨90, _⟩ => ⟨S5120, .i32⟩
  | .hbm, ⟨91, _⟩ => ⟨S5120, .i32⟩
  | .hbm, ⟨92, _⟩ => ⟨S_, .i32⟩
  | .hbm, ⟨93, _⟩ => ⟨S5120, .i32⟩
  | .hbm, ⟨94, _⟩ => ⟨S5120, .i1⟩
  | .hbm, ⟨95, _⟩ => ⟨S_, .i32⟩
  | .hbm, ⟨96, _⟩ => ⟨S5120, .i32⟩
  | .hbm, ⟨97, _⟩ => ⟨S5120, .i32⟩
  | .hbm, ⟨98, _⟩ => ⟨S5120, .i32⟩
  | .hbm, ⟨99, _⟩ => ⟨S_, .i32⟩
  | .hbm, ⟨100, _⟩ => ⟨S5120, .i32⟩
  | .hbm, ⟨101, _⟩ => ⟨S5120, .i1⟩
  | .hbm, ⟨102, _⟩ => ⟨S_, .i32⟩
  | .hbm, ⟨103, _⟩ => ⟨S5120, .i32⟩
  | .hbm, ⟨104, _⟩ => ⟨S5120, .i32⟩
  | .hbm, ⟨105, _⟩ => ⟨S5120, .i32⟩
  | .hbm, ⟨106, _⟩ => ⟨S5120x1, .i32⟩
  | .hbm, ⟨107, _⟩ => ⟨S5120x1, .i32⟩
  | .hbm, ⟨108, _⟩ => ⟨S5120x1, .i32⟩
  | .hbm, ⟨109, _⟩ => ⟨S5120x1, .i32⟩
  | .hbm, ⟨110, _⟩ => ⟨S5120x1, .i32⟩
  | .hbm, ⟨111, _⟩ => ⟨S5120x5, .i32⟩
  | .hbm, ⟨112, _⟩ => ⟨S16x20x64x64x16, .i32⟩
  | .hbm, ⟨113, _⟩ => ⟨S16x20x64x64x16, .f32⟩
  | _, _ => ⟨S16x20x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_c : Ref sig .tc := ⟨.hbm, 37, rfl⟩
abbrev main_v34 : Ref sig .tc := ⟨.hbm, 38, rfl⟩
abbrev main_v35 : Ref sig .tc := ⟨.hbm, 39, rfl⟩
abbrev main_c_0 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_c_1 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_c_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_c_3 : Ref sig .tc := ⟨.hbm, 52, rfl⟩
abbrev main_c_4 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v45 : Ref sig .tc := ⟨.hbm, 59, rfl⟩
abbrev main_c_5 : Ref sig .tc := ⟨.hbm, 60, rfl⟩
abbrev main_c_6 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v46 : Ref sig .tc := ⟨.hbm, 67, rfl⟩
abbrev main_v47 : Ref sig .tc := ⟨.hbm, 68, rfl⟩
abbrev main_c_7 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]
-- ==== Proof.Raster.Tile.lean ====
/-
  The kernel's work on ONE sub-image, written once.

  The body draws twenty sub-images per grid point with the same operations; `tile` is those operations as one function of
  the numbers a sub-image loads. The stages are named: the truncated coordinates of the 32 lanes (`coords`), the two rows
  the matrix product takes (`stacked`), the product that sorts the lanes (`sorted`), and the picture (`paint`).
-/
module

public import proofs.«01_k».proof.Proof.Gen.KernelIdeal.Frame

@[expose] public section

set_option maxRecDepth 16384

noncomputable section

namespace Cert.Proof.Raster

open Cert.KernelIdeal Cert.KernelIdeal.Gen
open Idealize.ShloMosaic Idealize.ShloMosaic.TcCoe Idealize.ShloMosaic.Tactic

variable {F : FTy → Type} [FloatOps F]

/-- The mask of the odd lanes, as the body computes it: the lane number's floor remainder by two is one. -/
def oddLanes : IVec S1x32 1 := k0_pay3

/-- The truncated coordinate of every lane: an odd lane uses the first resolution and origin, an even lane the second. -/
def coords (x : Vec F S1x1x32 .f32) (r0 r1 o0 o1 : Vec F S1x1x1 .f32) : IVec S1x32 32 :=
  fptosi 32
    (addf
      (divf (shapeCast S1x32 (shapeCast S32 x shapeCasts_S1x1x32_S32) shapeCasts_S32_S1x32)
        (select oddLanes (broadcast S1x32 (extractAt ![0, 0, 0] r0 inpos_S1x1x1_p0_0_0))
          (broadcast S1x32 (extractAt ![0, 0, 0] r1 inpos_S1x1x1_p0_0_0))))
      (select oddLanes (broadcast S1x32 (extractAt ![0, 0, 0] o0 inpos_S1x1x1_p0_0_0))
        (broadcast S1x32 (extractAt ![0, 0, 0] o1 inpos_S1x1x1_p0_0_0))))

/-- The two rows the product takes: the coordinates clipped to `[-1, 64]`, and whether each was inside `[0, 64)`. -/
def stacked (q : IVec S1x32 32) : FVec F S2x32 .f32 :=
  concatenate S2x32 0
    [⟨S1x32, sitofp .f32 (minsi (broadcast S1x32 64#32) (maxsi (broadcast S1x32 4294967295#32) q))⟩,
     ⟨S1x32, sitofp .f32 (extui 32 (andi (cmpi .sge q (broadcast S1x32 0#32)) (cmpi .slt q (broadcast S1x32 64#32))) natLt_1_32)⟩]
    concatenates_S1x32_S1x32_S2x32_d0

/-- The product with the table `D`, over the lanes: one row per output lane, one column per row of `stacked`. -/
def sorted (D : Vec F S32x32 .f32) (a : FVec F S2x32 .f32) : FVec F S32x2 .f32 :=
  matmul dot_S32x32_S2x32_S32x2_0_1_1_0_n_n none D a (constant S32x2 .f32 0x00000000#32)

/-- The column masks of the sixteen points: lane `w` of row `p` is one when point `p` is inside and its column is `w`. -/
def colMask (dS : FVec F S32x2 .f32) : FVec F S16x64 .f32 :=
  sitofp .f32
    (extui 32
      (andi
        (cmpi .eq (iota .tc S16x64 32 [1] iota_S16x64_d1_w32)
          (broadcastTo S16x64 (fptosi 32 (extractStridedSlice S16x1 ![0, 0] dS slices_S32x2_o0_0_S16x1)) broadcasts_S16x1_S16x64))
        (broadcastTo S16x64
          (cmpf .oeq
            (addf (extractStridedSlice S16x1 ![0, 1] dS slices_S32x2_o0_1_S16x1)
              (extractStridedSlice S16x1 ![16, 1] dS slices_S32x2_o16_1_S16x1))
            (broadcast S16x1 (Scalar.ofBits .f32 0x40000000#32)))
          broadcasts_S16x1_S16x64))
      natLt_1_32)

/-- The picture: at height `h`, point `p`, lane `w`, the column mask where point `p`'s row is `h`, else zero. -/
def paint (dS : FVec F S32x2 .f32) : FVec F S64x16x64 .f32 :=
  select
    (cmpi .eq (iota .tc S64x16x64 32 [0] iota_S64x16x64_d0_w32)
      (broadcastTo S64x16x64
        (shapeCast S1x16x64
          (broadcastTo S16x64
            (shapeCast S16x1 (fptosi 32 (extractStridedSlice S16x1 ![16, 0] dS slices_S32x2_o16_0_S16x1)) shapeCasts_S16x1_S16x1)
            broadcasts_S16x1_S16x64)
          shapeCasts_S16x64_S1x16x64)
        broadcasts_S1x16x64_S64x16x64))
    (broadcastTo S64x16x64
      (shapeCast S1x16x64 (shapeCast S1x16x64 (colMask dS) shapeCasts_S16x64_S1x16x64) shapeCasts_S1x16x64_S1x16x64)
      broadcasts_S1x16x64_S64x16x64)
    (broadcast S64x16x64 (Scalar.ofBits .f32 0x00000000#32))

/-- What the body stores for one sub-image, from the numbers it loads for it. -/
def tile (x : Vec F S1x1x32 .f32) (r0 r1 o0 o1 : Vec F S1x1x1 .f32) (D : Vec F S32x32 .f32) : FVec F S1x1x64x16x64 .f32 :=
  shapeCast S1x1x64x16x64 (paint (sorted D (stacked (coords x r0 r1 o0 o1)))) shapeCasts_S64x16x64_S1x1x64x16x64

/-- A sub-image's slot lies inside the output block. -/
theorem slot_inb (j : Fin 20) :
    ∀ a, (![0, j.val, 0, 0, 0] : Fin 5 → Nat) a + S1x1x64x16x64.size a ≤ S1x20x64x16x64.size a := by
  revert j; decide

section

variable (i : grid0.Coords) (arg2 : Memref sig .tc .vmem S16x20x32 .f32) (harg2 : arg2.IsWhole)
  (arg3 : Memref sig .tc .vmem S16x20x2 .f32) (harg3 : arg3.IsWhole) (arg4 : Memref sig .tc .vmem S16x20x2 .f32) (harg4 : arg4.IsWhole)
  (arg5 : Memref sig .tc .vmem S32x32 .f32) (harg5 : arg5.IsWhole) (arg6 : Memref sig .tc .vmem S1x20x64x16x64 .f32) (harg6 : arg6.IsWhole)
  (x0 : Vec F S16x20x32 .f32) (x1 x2 : Vec F S16x20x2 .f32) (x3 : Vec F S32x32 .f32)

/-- The store of sub-image `j`: its slot of the output block, and `tile` of what it loads. -/
def piece (j : Fin 20) : View.Piece (Elt F) S1x20x64x16x64 .f32 :=
  ⟨Rect.unit (s := S1x20x64x16x64) ![0, j.val, 0, 0, 0] S1x1x64x16x64.size (slot_inb j),
   tile
    (View.readAt (Elt F) arg2.view (Rect.unit (s := S16x20x32) (k0_off1 i (BitVec.ofNat 32 j.val)) S1x1x32.size (k0_off1_inb i j)).toLoadRect (harg2.unread x0))
    (View.readAt (Elt F) arg3.view (Rect.unit (s := S16x20x2) (k0_off2 i (BitVec.ofNat 32 j.val)) S1x1x1.size (k0_off2_inb i j)).toLoadRect (harg3.unread x1))
    (View.readAt (Elt F) arg3.view (Rect.unit (s := S16x20x2) (k0_off3 i (BitVec.ofNat 32 j.val)) S1x1x1.size (k0_off3_inb i j)).toLoadRect (harg3.unread x1))
    (View.readAt (Elt F) arg4.view (Rect.unit (s := S16x20x2) (k0_off2 i (BitVec.ofNat 32 j.val)) S1x1x1.size (k0_off2_inb i j)).toLoadRect (harg4.unread x2))
    (View.readAt (Elt F) arg4.view (Rect.unit (s := S16x20x2) (k0_off3 i (BitVec.ofNat 32 j.val)) S1x1x1.size (k0_off3_inb i j)).toLoadRect (harg4.unread x2))
    (View.readAt (Elt F) arg5.view (Rect.unit (s := S32x32) ![0, 0] S32x32.size inb_S32x32_S32x32_0_0).toLoadRect (harg5.unread x3))⟩

/-- The body's stores, last first, are the twenty sub-images' stores. -/
theorem stores_eq (c : Dev nD) :
    (kernelRun0_A c i arg2 harg2 arg3 harg3 arg4 harg4 arg5 harg5 arg6 harg6 x0 x1 x2 x3).1
      = (List.finRange 20).reverse.map (piece i arg2 harg2 arg3 harg3 arg4 harg4 arg5 harg5 x0 x1 x2 x3) := by
  sl_kernel_rfl

end

end Cert.Proof.Raster

end
-- ==== Proof.Raster.TileValue.lean ====
/-
  What one sub-image's picture holds over the extended reals.

  The product with the table of zeros and ones moves lane `2p` to row `p` and lane `2p + 1` to row `16 + p`; the integers
  it carries are between -1 and 64 and come back unchanged. So the picture is one exactly where the row and the column of
  the point are the place's own (`tile_at`).
-/
module

public import proofs.«01_k».proof.Proof.Raster.Tile
public import Idealize.ShloMosaic.Lib.Pointwise

@[expose] public section

set_option maxRecDepth 16384

noncomputable section

namespace Cert.Proof.Raster

open Cert.KernelIdeal Cert.KernelIdeal.Gen
open Idealize.ShloMosaic Idealize.ShloMosaic.TcCoe Idealize.ShloMosaic.Tactic

/-! ## Words -/

/-- A natural number below `2 ^ 31`, as a word, reads as itself. -/
theorem ofNat_toInt (n : Nat) (h : n < 2147483648) : (BitVec.ofNat 32 n).toInt = (n : Int) := by
  rw [BitVec.toInt_ofNat', Int.bmod_eq_of_le] <;> omega

/-- The signed maximum of two words, read as an integer. -/
theorem maxsi_toInt (a b : BitVec 32) : (IntOp.maxsi a b).toInt = max a.toInt b.toInt := by
  unfold IntOp.maxsi
  rw [BitVec.slt_eq_decide]
  by_cases h : b.toInt < a.toInt
  · rw [if_pos (decide_eq_true h)]; omega
  · rw [if_neg (by simpa using h)]; omega

/-- The signed minimum of two words, read as an integer. -/
theorem minsi_toInt (a b : BitVec 32) : (IntOp.minsi a b).toInt = min a.toInt b.toInt := by
  unfold IntOp.minsi
  rw [BitVec.slt_eq_decide]
  by_cases h : a.toInt < b.toInt
  · rw [if_pos (decide_eq_true h)]; omega
  · rw [if_neg (by simpa using h)]; omega

/-- A coordinate clipped to `[-1, 64]`. -/
def clipWord (q : BitVec 32) : BitVec 32 := IntOp.minsi 64#32 (IntOp.maxsi 4294967295#32 q)

/-- The clip, read as an integer. -/
theorem clipWord_toInt (q : BitVec 32) : (clipWord q).toInt = min 64 (max (-1) q.toInt) := by
  have e64 : (64#32).toInt = 64 := by decide
  have e1 : (4294967295#32).toInt = -1 := by decide
  unfold clipWord
  rw [minsi_toInt, maxsi_toInt, e64, e1]

/-- The bit of a coordinate inside `[0, 64)`. -/
def insideBit (q : BitVec 32) : BitVec 1 := IntOp.andi (IntOp.cmpi .sge q 0#32) (IntOp.cmpi .slt q 64#32)

/-- The bit is the decision of the two bounds. -/
theorem insideBit_eq (q : BitVec 32) : insideBit q = BitVec.ofBool (decide (0 ≤ q.toInt ∧ q.toInt < 64)) := by
  have e64 : (64#32).toInt = 64 := by decide
  have e0 : (0#32).toInt = 0 := by decide
  have h1 : (0#32).sle q = decide (0 ≤ q.toInt) := by rw [BitVec.sle_eq_decide, e0]
  have h2 : q.slt 64#32 = decide (q.toInt < 64) := by rw [BitVec.slt_eq_decide, e64]
  unfold insideBit IntOp.andi IntOp.cmpi
  dsimp only
  rw [h1, h2, Bool.decide_and]
  cases decide (0 ≤ q.toInt) <;> cases decide (q.toInt < 64) <;> rfl

/-- A bit widened to a word and read as an integer. -/
theorem widen_toInt (b : Bool) : (BitVec.setWidth 32 (BitVec.ofBool b)).toInt = if b then 1 else 0 := by
  cases b <;> rfl

/-- A lane number below 64, as a word, is a word exactly when the word reads as that number. -/
theorem lane_eq (n : Fin 64) (v : BitVec 32) : (BitVec.ofNat 32 n.val == v) = decide (v.toInt = (n.val : Int)) := by
  have hn : (BitVec.ofNat 32 n.val).toInt = (n.val : Int) := ofNat_toInt n.val (by omega)
  rw [Bool.eq_iff_iff, beq_iff_eq, decide_eq_true_iff, ← hn]
  exact ⟨fun h => by rw [h], fun h => BitVec.eq_of_toInt_eq h.symm⟩

/-! ## Integers carried as reals -/

/-- The truncation of a small integer's real is the integer's word. -/
theorem fptosi_int (n : Int) (h0 : -1 ≤ n) (h1 : n ≤ 64) : Ideal.fptosi 32 (((n : ℝ) : EReal)) = BitVec.ofInt 32 n := by
  unfold Ideal.fptosi
  rw [Ideal.toIntClamped_coe, Int.floor_intCast, Int.ceil_intCast, ite_self]
  congr 1
  norm_num
  omega

/-- A clipped coordinate survives the passage through the reals. -/
theorem fptosi_clip (q : BitVec 32) : Ideal.fptosi 32 ((((clipWord q).toInt : ℝ)) : EReal) = clipWord q := by
  rw [fptosi_int _ (by rw [clipWord_toInt]; omega) (by rw [clipWord_toInt]; omega), BitVec.ofInt_toInt]

/-- The pattern `0x40000000` is the real two. -/
theorem ofBits_two : Ideal.ofBits .f32 0x40000000#32 = ((2 : ℝ) : EReal) := by
  simp [Ideal.ofBits, Ideal.ieee, -EReal.coe_mul]
  norm_num

/-! ## The stages -/

/-- Lane `l` is odd exactly when the mask has it. -/
theorem oddLanes_at (l : Fin 32) : oddLanes (ix2 0 l) = BitVec.ofBool (decide (l.val % 2 = 1)) := by
  revert l; decide +kernel

/-- The truncated coordinate of lane `l`. -/
theorem coords_at (x : Vec Ideal S1x1x32 .f32) (r0 r1 o0 o1 : Vec Ideal S1x1x1 .f32) (l : Fin 32) :
    coords x r0 r1 o0 o1 (ix2 0 l)
      = Ideal.fptosi 32
          (Ideal.div (x (ix3 0 0 l)) (if l.val % 2 = 1 then r0 (ix3 0 0 0) else r1 (ix3 0 0 0))
            + (if l.val % 2 = 1 then o0 (ix3 0 0 0) else o1 (ix3 0 0 0))) := by
  pointwise [coords]
  rw [oddLanes_at]
  by_cases h : l.val % 2 = 1
  · simp only [h, decide_true, if_true]; rfl
  · simp only [h, decide_false, if_false]; rfl

/-- Row 0 of the stacked rows: the clipped coordinate's integer. -/
theorem stacked_at0 (q : IVec S1x32 32) (l : Fin 32) :
    stacked (F := Ideal) q (ix2 0 l) = (((clipWord (q (ix2 0 l))).toInt : ℝ) : EReal) := by
  pointwise [stacked]
  rfl

/-- Row 1 of the stacked rows: one for a coordinate inside, else zero. -/
theorem stacked_at1 (q : IVec S1x32 32) (l : Fin 32) :
    stacked (F := Ideal) q (ix2 1 l)
      = (((BitVec.setWidth 32 (insideBit (q (ix2 0 l)))).toInt : ℝ) : EReal) := by
  pointwise [stacked]
  rfl

/-- The lane that the table moves to row `k`. -/
def laneOf (k : Fin 32) : Fin 32 := if h : k.val < 16 then ⟨2 * k.val, by omega⟩ else ⟨2 * (k.val - 16) + 1, by omega⟩

/-- The table of zeros and ones, read as reals. -/
def IsTable (D : Vec Ideal S32x32 .f32) : Prop := ∀ l k : Fin 32, D (ix2 l k) = if l = laneOf k then 1 else 0

/-- The product with the table picks the lane. -/
theorem sorted_at (D : Vec Ideal S32x32 .f32) (hD : IsTable D) (a : FVec Ideal S2x32 .f32) (k : Fin 32) (r : Fin 2) :
    sorted D a (ix2 k r) = a (ix2 r (laneOf k)) := by
  pointwise [sorted]
  rw [Finset.sum_eq_single (laneOf k)]
  · rw [hD, if_pos rfl, one_mul]
  · intro l _ hl
    rw [hD, if_neg hl, zero_mul]
  · intro h
    exact absurd (Finset.mem_univ _) h

/-- One where the row and the column of a point are the place's own, else zero. -/
def hit (row col : BitVec 32) (h w : Fin 64) : EReal := if row.toInt = (h.val : Int) ∧ col.toInt = (w.val : Int) then 1 else 0

/-- The column mask of point `p` at lane `w`. -/
theorem colMask_at (dS : FVec Ideal S32x2 .f32) (p : Fin 16) (w : Fin 64) (row col : BitVec 32)
    (hc : dS (ix2 ⟨p.val, by omega⟩ 0) = (((clipWord col).toInt : ℝ) : EReal))
    (hci : dS (ix2 ⟨p.val, by omega⟩ 1) = (((BitVec.setWidth 32 (insideBit col)).toInt : ℝ) : EReal))
    (hri : dS (ix2 ⟨16 + p.val, by omega⟩ 1) = (((BitVec.setWidth 32 (insideBit row)).toInt : ℝ) : EReal)) :
    colMask dS (ix2 p w) = if (0 ≤ row.toInt ∧ row.toInt < 64) ∧ col.toInt = (w.val : Int) then 1 else 0 := by
  have hw := w.isLt
  pointwise [colMask]
  rw [hc, hci, hri, ofBits_two, insideBit_eq, insideBit_eq, widen_toInt, widen_toInt]
  have hv : decide ((((if decide (0 ≤ col.toInt ∧ col.toInt < 64) = true then (1 : Int) else 0 : Int) : ℝ) : EReal)
        + (((if decide (0 ≤ row.toInt ∧ row.toInt < 64) = true then (1 : Int) else 0 : Int) : ℝ) : EReal) = ((2 : ℝ) : EReal))
      = decide ((0 ≤ col.toInt ∧ col.toInt < 64) ∧ (0 ≤ row.toInt ∧ row.toInt < 64)) := by
    rw [decide_eq_decide, ← EReal.coe_add, EReal.coe_eq_coe_iff]
    by_cases h1 : (0 ≤ col.toInt ∧ col.toInt < 64) <;> by_cases h2 : (0 ≤ row.toInt ∧ row.toInt < 64) <;> simp [h1, h2] <;> norm_num
  rw [hv]
  show ((((BitVec.setWidth 32 (IntOp.andi (BitVec.ofBool (BitVec.ofNat 32 w.val == Ideal.fptosi 32 (((clipWord col).toInt : ℝ) : EReal))) _)).toInt : ℝ)) : EReal) = _
  rw [fptosi_clip, lane_eq, clipWord_toInt]
  have hand : ∀ a b : Bool, IntOp.andi (BitVec.ofBool a) (BitVec.ofBool b) = BitVec.ofBool (a && b) := by decide
  rw [hand, widen_toInt, ← Bool.decide_and]
  have hiff : (min 64 (max (-1) col.toInt) = (w.val : Int) ∧ (0 ≤ col.toInt ∧ col.toInt < 64) ∧ (0 ≤ row.toInt ∧ row.toInt < 64))
      ↔ ((0 ≤ row.toInt ∧ row.toInt < 64) ∧ col.toInt = (w.val : Int)) := by omega
  by_cases h : (0 ≤ row.toInt ∧ row.toInt < 64) ∧ col.toInt = (w.val : Int)
  · rw [if_pos h, if_pos (decide_eq_true (hiff.2 h))]; norm_num
  · rw [if_neg h, if_neg fun q => h (hiff.1 (of_decide_eq_true q))]; norm_num

/-- The picture at height `h`, point `p`, lane `w`. -/
theorem paint_at (dS : FVec Ideal S32x2 .f32) (h : Fin 64) (p : Fin 16) (w : Fin 64) (row col : BitVec 32)
    (hr : dS (ix2 ⟨16 + p.val, by omega⟩ 0) = (((clipWord row).toInt : ℝ) : EReal))
    (hm : colMask dS (ix2 p w) = if (0 ≤ row.toInt ∧ row.toInt < 64) ∧ col.toInt = (w.val : Int) then 1 else 0) :
    paint dS (ix3 h p w) = hit row col h w := by
  have hh := h.isLt
  pointwise [paint]
  rw [hr, hm]
  show Scalar.select (BitVec.ofBool (BitVec.ofNat 32 h.val == Ideal.fptosi 32 (((clipWord row).toInt : ℝ) : EReal))) _ _ = _
  rw [fptosi_clip, lane_eq, clipWord_toInt]
  unfold hit
  by_cases e : min 64 (max (-1) row.toInt) = (h.val : Int)
  · rw [decide_eq_true e]
    show (if (0 ≤ row.toInt ∧ row.toInt < 64) ∧ col.toInt = (w.val : Int) then (1 : EReal) else 0) = _
    exact if_congr (by omega) rfl rfl
  · rw [decide_eq_false e]
    exact (if_neg fun q => e (by omega)).symm

/-- One sub-image's stored value: point `p`'s row comes from lane `2p + 1`, its column from lane `2p`. -/
theorem tile_at (x : Vec Ideal S1x1x32 .f32) (r0 r1 o0 o1 : Vec Ideal S1x1x1 .f32) (D : Vec Ideal S32x32 .f32) (hD : IsTable D)
    (h : Fin 64) (p : Fin 16) (w : Fin 64) :
    tile x r0 r1 o0 o1 D (ix5 0 0 h p w)
      = hit (Ideal.fptosi 32 (Ideal.div (x (ix3 0 0 ⟨2 * p.val + 1, by omega⟩)) (r0 (ix3 0 0 0)) + o0 (ix3 0 0 0)))
          (Ideal.fptosi 32 (Ideal.div (x (ix3 0 0 ⟨2 * p.val, by omega⟩)) (r1 (ix3 0 0 0)) + o1 (ix3 0 0 0))) h w := by
  have hlo : laneOf ⟨p.val, by omega⟩ = ⟨2 * p.val, by omega⟩ := by
    unfold laneOf; rw [dif_pos p.isLt]
  have hhi : laneOf ⟨16 + p.val, by omega⟩ = ⟨2 * p.val + 1, by omega⟩ := by
    unfold laneOf; rw [dif_neg (by simp)]; exact Fin.ext (by simp)
  have hcol := coords_at x r0 r1 o0 o1 ⟨2 * p.val, by omega⟩
  have hrow := coords_at x r0 r1 o0 o1 ⟨2 * p.val + 1, by omega⟩
  rw [if_neg (by simp), if_neg (by simp)] at hcol
  rw [if_pos (by show (2 * p.val + 1) % 2 = 1; omega), if_pos (by show (2 * p.val + 1) % 2 = 1; omega)] at hrow
  rw [← hcol, ← hrow]
  pointwise [tile]
  refine paint_at _ h p w _ _ ?_ (colMask_at _ p w _ _ ?_ ?_ ?_)
  · rw [sorted_at D hD, hhi, stacked_at0]
  · rw [sorted_at D hD, hlo, stacked_at0]
  · rw [sorted_at D hD, hlo, stacked_at1]
  · rw [sorted_at D hD, hhi, stacked_at1]

/-- The table the program passes is the table of zeros and ones: decided over its words. -/
theorem table_words : ∀ l k : Fin 32, lit0 (S32x32.rowMajor (ix2 l k)) = if l = laneOf k then 0x3F800000#32 else 0x00000000#32 := by
  decide +kernel

/-- The table the program passes, read as reals. -/
theorem table_isTable : IsTable fun i => (FloatOps.ofBits .f32 (lit0 (S32x32.rowMajor i)) : Ideal .f32) := by
  intro l k
  show Ideal.ofBits .f32 (lit0 (S32x32.rowMajor (ix2 l k))) = _
  rw [table_words]
  by_cases e : l = laneOf k
  · rw [if_pos e, if_pos e, Ideal.ofBits_one_f32]
  · rw [if_neg e, if_neg e, Ideal.ofBits_zero_f32]

end Cert.Proof.Raster

end
-- ==== Proof.Raster.Block.lean ====
/-
  What one grid point leaves in the output block: the pictures of the twenty sub-images of one batch entry.
-/
module

public import proofs.«01_k».proof.Proof.Raster.TileValue
public import Idealize.ShloMosaic.Lib.Pipeline.ValueKit
public import Idealize.ShloMosaic.Lib.WholeRead
public import Idealize.ShloMosaic.Lib.Writes

@[expose] public section

set_option maxRecDepth 16384

noncomputable section

namespace Cert.Proof.Raster

open Cert.KernelIdeal Cert.KernelIdeal.Gen
open Idealize.ShloMosaic Idealize.ShloMosaic.TcCoe Idealize.ShloMosaic.Tactic

/-! ## The picture, as a function of the arguments -/

/-- The truncated grid coordinate of one point along one axis: lane `l` of `x`, scaled and shifted by entry `k`. -/
def gridCoord (x : Vec Ideal S16x20x32 .f32) (res org : Vec Ideal S16x20x2 .f32) (b : Fin 16) (s : Fin 20) (l : Fin 32)
    (k : Fin 2) : BitVec 32 :=
  Ideal.fptosi 32 (Ideal.div (x (ix3 b s l)) (res (ix3 b s k)) + org (ix3 b s k))

/-- The row of point `p` of sub-image `(b, s)`: its second number over the first resolution, plus the first origin. -/
def rowOf (x : Vec Ideal S16x20x32 .f32) (res org : Vec Ideal S16x20x2 .f32) (b : Fin 16) (s : Fin 20) (p : Fin 16) : BitVec 32 :=
  gridCoord x res org b s ⟨2 * p.val + 1, by omega⟩ 0

/-- The column of point `p` of sub-image `(b, s)`: its first number over the second resolution, plus the second origin. -/
def colOf (x : Vec Ideal S16x20x32 .f32) (res org : Vec Ideal S16x20x2 .f32) (b : Fin 16) (s : Fin 20) (p : Fin 16) : BitVec 32 :=
  gridCoord x res org b s ⟨2 * p.val, by omega⟩ 1

/-- The picture of point `p` of sub-image `(b, s)` at row `h`, column `w`. -/
def pic (x : Vec Ideal S16x20x32 .f32) (res org : Vec Ideal S16x20x2 .f32) (b : Fin 16) (s : Fin 20) (h w : Fin 64)
    (p : Fin 16) : EReal :=
  hit (rowOf x res org b s p) (colOf x res org b s p) h w

/-! ## The offsets of the loads -/

/-- The three loads of sub-image `j` at grid point `i` start at batch entry `i 0`, sub-image `j`, and entry 0, 0, 1. -/
theorem load_offsets : ∀ (t : Fin grid0.N) (j : Fin 20),
    k0_off1 (grid0.coords t) (BitVec.ofNat 32 j.val) = ![t.val, j.val, 0]
      ∧ k0_off2 (grid0.coords t) (BitVec.ofNat 32 j.val) = ![t.val, j.val, 0]
      ∧ k0_off3 (grid0.coords t) (BitVec.ofNat 32 j.val) = ![t.val, j.val, 1] := by
  decide +kernel

/-- The batch entry of grid point `t`. -/
def entryOf (t : Fin grid0.N) : Fin 16 := ⟨t.val, lt_of_lt_of_eq t.isLt N_0⟩

/-- A load of a rectangle reads, at place `y`, the entry whose coordinates are the rectangle's offset plus `y`. -/
theorem load_place {s : Shape} (off size : Fin s.rank → Nat) (inb) (y : (Rect.unit off size inb).shape.Idx) (z : s.Idx)
    (h : ∀ a, off a + (y a : Nat) = (z a : Nat)) : (Rect.unit off size inb).toLoadRect.idx y = z :=
  funext fun a => Fin.ext ((ValueKit.rect_emb_unit_val off size inb y a).trans (h a))

section

variable (t : Fin grid0.N) (arg2 : Memref sig .tc .vmem S16x20x32 .f32) (harg2 : arg2.IsWhole)
  (arg3 : Memref sig .tc .vmem S16x20x2 .f32) (harg3 : arg3.IsWhole) (arg4 : Memref sig .tc .vmem S16x20x2 .f32) (harg4 : arg4.IsWhole)
  (arg5 : Memref sig .tc .vmem S32x32 .f32) (harg5 : arg5.IsWhole) (arg6 : Memref sig .tc .vmem S1x20x64x16x64 .f32) (harg6 : arg6.IsWhole)
  (x0 : Vec Ideal S16x20x32 .f32) (x1 x2 : Vec Ideal S16x20x2 .f32) (x3 : Vec Ideal S32x32 .f32)

/-- The lanes sub-image `j` loads are the row `(t, j)` of the points. -/
theorem load_lanes (j : Fin 20) (l : Fin 32) :
    View.readAt (Elt Ideal) arg2.view (Rect.unit (s := S16x20x32) (k0_off1 (grid0.coords t) (BitVec.ofNat 32 j.val)) S1x1x32.size (k0_off1_inb (grid0.coords t) j)).toLoadRect
      (harg2.unread x0) (ix3 0 0 l) = x0 (ix3 (entryOf t) j l) := by
  rw [harg2.readAt_unread]
  refine congrArg x0 (load_place (s := S16x20x32) _ _ _ (ix3 0 0 l) _ fun a => ?_)
  refine (congrArg (· + _) (congrFun (load_offsets t j).1 a)).trans ?_
  fin_cases a <;> simp [entryOf]

/-- A load of the first of the two numbers of a sub-image. -/
theorem load_first (arg : Memref sig .tc .vmem S16x20x2 .f32) (harg : arg.IsWhole) (y : Vec Ideal S16x20x2 .f32) (j : Fin 20) :
    View.readAt (Elt Ideal) arg.view (Rect.unit (s := S16x20x2) (k0_off2 (grid0.coords t) (BitVec.ofNat 32 j.val)) S1x1x1.size (k0_off2_inb (grid0.coords t) j)).toLoadRect
      (harg.unread y) (ix3 0 0 0) = y (ix3 (entryOf t) j 0) := by
  rw [harg.readAt_unread]
  refine congrArg y (load_place (s := S16x20x2) _ _ _ (ix3 0 0 0) _ fun a => ?_)
  refine (congrArg (· + _) (congrFun (load_offsets t j).2.1 a)).trans ?_
  fin_cases a <;> simp [entryOf]

/-- A load of the second of the two numbers of a sub-image. -/
theorem load_second (arg : Memref sig .tc .vmem S16x20x2 .f32) (harg : arg.IsWhole) (y : Vec Ideal S16x20x2 .f32) (j : Fin 20) :
    View.readAt (Elt Ideal) arg.view (Rect.unit (s := S16x20x2) (k0_off3 (grid0.coords t) (BitVec.ofNat 32 j.val)) S1x1x1.size (k0_off3_inb (grid0.coords t) j)).toLoadRect
      (harg.unread y) (ix3 0 0 0) = y (ix3 (entryOf t) j 1) := by
  rw [harg.readAt_unread]
  refine congrArg y (load_place (s := S16x20x2) _ _ _ (ix3 0 0 0) _ fun a => ?_)
  refine (congrArg (· + _) (congrFun (load_offsets t j).2.2 a)).trans ?_
  fin_cases a <;> simp [entryOf]

/-- The load of the table is the table. -/
theorem load_table (l k : Fin 32) :
    View.readAt (Elt Ideal) arg5.view (Rect.unit (s := S32x32) ![0, 0] S32x32.size inb_S32x32_S32x32_0_0).toLoadRect (harg5.unread x3) (ix2 l k)
      = x3 (ix2 l k) := by
  rw [harg5.readAt_unread]
  refine congrArg x3 (load_place (s := S32x32) _ _ _ (ix2 l k) _ fun a => ?_)
  fin_cases a <;> simp

/-- The store of sub-image `j`, at each place of its slot, is the picture there. -/
theorem piece_at (hD : IsTable x3) (j : Fin 20) (h : Fin 64) (p : Fin 16) (w : Fin 64) :
    (piece (grid0.coords t) arg2 harg2 arg3 harg3 arg4 harg4 arg5 harg5 x0 x1 x2 x3 j).2 (ix5 0 0 h p w)
      = pic x0 x1 x2 (entryOf t) j h w p := by
  refine (tile_at _ _ _ _ _ _ (fun l k => (load_table arg5 harg5 x3 l k).trans (hD l k)) h p w).trans ?_
  rw [load_lanes, load_lanes, load_first, load_second, load_first, load_second]
  rfl

/-- The block grid point `t` leaves holds the pictures of batch entry `t`, whatever the block held before. -/
theorem block_at (hD : IsTable x3) (c : Dev nD) (s : Fin 20) (h : Fin 64) (p : Fin 16) (w : Fin 64) :
    out0_A_4 c (grid0.coords t) arg2 harg2 arg3 harg3 arg4 harg4 arg5 harg5 arg6 harg6 x0 x1 x2 x3 (ix5 0 s h p w)
      = pic x0 x1 x2 (entryOf t) s h w p := by
  unfold out0_A_4
  refine (View.read_writes_apply_of_pieces (Val := Elt Ideal) _ _
    (fun y : S1x20x64x16x64.Idx => pic x0 x1 x2 (entryOf t) (y 1) (y 2) (y 4) (y 3)) _ ?_ _
    (cover0_A_4 c (grid0.coords t) arg2 harg2 arg3 harg3 arg4 harg4 arg5 harg5 arg6 harg6 x0 x1 x2 x3 _)).trans rfl
  rw [stores_eq]
  intro q hq y
  obtain ⟨j, -, rfl⟩ := List.mem_map.mp hq
  have hy : ∀ y : S1x1x64x16x64.Idx,
      (piece (grid0.coords t) arg2 harg2 arg3 harg3 arg4 harg4 arg5 harg5 x0 x1 x2 x3 j).2 y
        = pic x0 x1 x2 (entryOf t) j (y 2) (y 4) (y 3) := by
    intro y
    idx_vars y
    obtain rfl : y0 = 0 := Subsingleton.elim _ _
    obtain rfl : y1 = 0 := Subsingleton.elim _ _
    exact piece_at t arg2 harg2 arg3 harg3 arg4 harg4 arg5 harg5 x0 x1 x2 x3 hD j y2 y3 y4
  refine (hy y).trans ?_
  have e := ValueKit.rect_emb_unit_val (s := S1x20x64x16x64) ![0, j.val, 0, 0, 0] S1x1x64x16x64.size (slot_inb j) y
  have y1 : (y (1 : Fin 5) : Nat) = 0 := Nat.lt_one_iff.mp (y (1 : Fin 5)).isLt
  have hcoord {a a' : Fin 20} {b b' c c' : Fin 64} {d d' : Fin 16} (ha : (a : Nat) = a') (hb : (b : Nat) = b')
      (hc : (c : Nat) = c') (hd : (d : Nat) = d') :
      pic x0 x1 x2 (entryOf t) a b c d = pic x0 x1 x2 (entryOf t) a' b' c' d' := by
    rw [Fin.ext ha, Fin.ext hb, Fin.ext hc, Fin.ext hd]
  exact hcoord ((e 1).trans (congrArg (j.val + ·) y1)).symm ((e 2).trans (Nat.zero_add _)).symm
    ((e 4).trans (Nat.zero_add _)).symm ((e 3).trans (Nat.zero_add _)).symm

end

end Cert.Proof.Raster

end
-- ==== Proof.Raster.KernelValue.lean ====
/-
  The kernel's result after the run: the picture of every point, at every place.
-/
module

public import proofs.«01_k».proof.Proof.Raster.Block
public import Idealize.ShloMosaic.Lib.Claim

@[expose] public section

set_option maxRecDepth 16384

noncomputable section

namespace Cert.Proof.Raster

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Where each window's block lies: the inputs whole, the output's block `t` at batch entry `t`. -/
theorem block_index : ∀ t : Fin cfg0.N, win0_0.index t = ![0, 0, 0] ∧ win0_1.index t = ![0, 0, 0]
    ∧ win0_2.index t = ![0, 0, 0] ∧ win0_3.index t = ![0, 0] ∧ win0_4.index t = ![t.val, 0, 0, 0, 0] :=
  (by decide +kernel : ∀ t : Fin grid0.N, _)

/-- The block of points the body sees is the whole argument. -/
theorem points_block (c : Dev nD) (t : Fin cfg0.N) : iblk m c 0 t = m ((c : Thread nD τ).loc main_arg0) := by
  blk_ext! [iblk, V, block_index t]

/-- The block of resolutions the body sees is the whole argument. -/
theorem resolution_block (c : Dev nD) (t : Fin cfg0.N) : iblk m c 1 t = m ((c : Thread nD τ).loc main_arg1) := by
  blk_ext! [iblk, V, block_index t]

/-- The block of origins the body sees is the whole argument. -/
theorem origin_block (c : Dev nD) (t : Fin cfg0.N) : iblk m c 2 t = m ((c : Thread nD τ).loc main_arg2) := by
  blk_ext! [iblk, V, block_index t]

/-- The block of the table the body sees is the table of zeros and ones. -/
theorem table_block (c : Dev nD) (t : Fin cfg0.N) : IsTable (iblk m c 3 t) := by
  intro l k
  refine Eq.trans ?_ (table_isTable l k)
  blk_simp [iblk]
  entry_read
  blk_ext [block_index t]

/-- The kernel's output array, before the closing transposition. -/
def picArray (c : Dev nD) : Vec Ideal S16x20x64x16x64 .f32 := fun i =>
  pic (m ((c : Thread nD τ).loc main_arg0)) (m ((c : Thread nD τ).loc main_arg1)) (m ((c : Thread nD τ).loc main_arg2))
    (i 0) (i 1) (i 2) (i 4) (i 3)

/-- After the last grid point the output array holds the pictures. -/
theorem array_final (c : Dev nD) : (dats m 0 c).arrAt 4 (cfgs 0).N = picArray m c := by
  refine (dats m 0 c).arrAt_eq_of_covers 4 _ (by decide +kernel) fun t _ y => ?_
  blk_simp
  rw [after0_4]
  have hy : ∀ y : S1x20x64x16x64.Idx, outsAt0 m c t y
      = pic (m ((c : Thread nD τ).loc main_arg0)) (m ((c : Thread nD τ).loc main_arg1)) (m ((c : Thread nD τ).loc main_arg2))
          (entryOf t) (y 1) (y 2) (y 4) (y 3) := by
    intro y
    idx_vars y
    obtain rfl : y0 = 0 := Subsingleton.elim _ _
    unfold outsAt0
    refine (block_at t _ _ _ _ _ _ _ _ _ _ _ _ _ _ (table_block m c t) c y1 y2 y3 y4).trans ?_
    rw [points_block, resolution_block, origin_block]
  refine (hy y).trans ?_
  have y0 : (y (0 : Fin 5) : Nat) = 0 := Nat.lt_one_iff.mp (y (0 : Fin 5)).isLt
  have e : ∀ a : Fin 5, (((win0_4.blk t).view.emb y) a : Nat) = (![t.val, 0, 0, 0, 0] : Fin 5 → Nat) a + (y a : Nat) := by
    intro a
    fin_cases a <;> blk_simp [block_index t]
  have hcoord {z z' : Fin 16} {a a' : Fin 20} {b b' d d' : Fin 64} {p p' : Fin 16} (hz : (z : Nat) = z') (ha : (a : Nat) = a')
      (hb : (b : Nat) = b') (hd : (d : Nat) = d') (hp : (p : Nat) = p') (x : Vec Ideal S16x20x32 .f32) (r o : Vec Ideal S16x20x2 .f32) :
      pic x r o z a b d p = pic x r o z' a' b' d' p' := by
    rw [Fin.ext hz, Fin.ext ha, Fin.ext hb, Fin.ext hd, Fin.ext hp]
  exact hcoord ((e 0).trans (congrArg (t.val + ·) y0)).symm ((e 1).trans (Nat.zero_add _)).symm ((e 2).trans (Nat.zero_add _)).symm
    ((e 4).trans (Nat.zero_add _)).symm ((e 3).trans (Nat.zero_add _)).symm _ _ _

/-- The kernel's result, after the closing transposition, is the picture of every point, at every place. -/
theorem result_at (c : Dev nD) (b : Fin 16) (s : Fin 20) (h w : Fin 64) (p : Fin 16) :
    (show Vec Ideal S16x20x64x64x16 .f32 from Pipeline.afterTail₀ cfgs (dats m) 0 (V0 m) [hostOps1] c main_v1) (ix5 b s h w p)
      = pic (m ((c : Thread nD τ).loc main_arg0)) (m ((c : Thread nD τ).loc main_arg1)) (m ((c : Thread nD τ).loc main_arg2)) b s h w p := by
  have e : Pipeline.afterTail₀ cfgs (dats m) 0 (V0 m) [hostOps1] c main_v1
      = transpose S16x20x64x64x16 [0, 1, 2, 4, 3] (picArray m c) transposes_S16x20x64x16x64_S16x20x64x64x16_0_1_2_4_3 := by
    unfold Pipeline.afterTail₀
    have hw : Pipeline.withArrays (cfgs 0).spec c (V0 m c) (fun w => (dats m 0 c).arrAt w (cfgs 0).N) (Proc.devRef .tc main_v0)
        = picArray m c := (Pipeline.withArrays_arr (cfgs 0).spec (by decide) c (V0 m c) _ 4).trans (array_final m c)
    dsimp only [hostOps1, List.flatten_cons, List.flatten_nil, List.append_nil, List.singleton_append]
    after_results
    rw [hw]
  rw [e]
  pointwise [picArray]

end Cert.Proof.Raster

end
-- ==== Proof.Raster.Reference.lean ====
/-
  The reference's result, in named stages.

  The 5120 updates of the scatter are the points of all sub-images in row-major order: update `n` is point `n % 16` of
  sub-image `n / 16 % 20` of batch entry `n / 320`. Its address is that triple with the clipped row and column between,
  and its value is one when row and column were inside.
-/
module

public import proofs.«01_k».proof.Proof.Raster.Block
public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.Proof.Raster.Ref

open Cert.ReferenceIdeal Cert.ReferenceIdeal.Gen
open Idealize.ShloMosaic Idealize.ShloMosaic.TcCoe Idealize.ShloMosaic.Tactic

/-! ## The stages -/

/-- The truncated coordinates of all points along one axis, from the slices of the three arguments. -/
def coordsOf (q : FVec Ideal S16x20x16x1 .f32) (r o : FVec Ideal S16x20x1 .f32) : IVec S5120 32 :=
  shapeCast _ (fptosi 32 (addf (Host.divf (shapeCast _ q shapeCasts_S16x20x16x1_S16x20x16)
    (broadcastInDim S16x20x16 ![0, 1, 2] bcast_S16x20x1_S16x20x16_0_1_2 r))
    (broadcastInDim S16x20x16 ![0, 1, 2] bcast_S16x20x1_S16x20x16_0_1_2 o))) shapeCasts_S16x20x16_S5120

/-- The rows of all points. -/
def rows (x : FVec Ideal S16x20x32 .f32) (res org : FVec Ideal S16x20x2 .f32) : IVec S5120 32 :=
  coordsOf (extractStridedSlice S16x20x16x1 ![0, 0, 0, 1] (shapeCast _ x shapeCasts_S16x20x32_S16x20x16x2) slices_S16x20x16x2_S16x20x16x1_0_0_0_1)
    (extractStridedSlice S16x20x1 ![0, 0, 0] res slices_S16x20x2_S16x20x1_0_0_0)
    (extractStridedSlice S16x20x1 ![0, 0, 0] org slices_S16x20x2_S16x20x1_0_0_0)

/-- The columns of all points. -/
def cols (x : FVec Ideal S16x20x32 .f32) (res org : FVec Ideal S16x20x2 .f32) : IVec S5120 32 :=
  coordsOf (extractStridedSlice S16x20x16x1 ![0, 0, 0, 0] (shapeCast _ x shapeCasts_S16x20x32_S16x20x16x2) slices_S16x20x16x2_S16x20x16x1_0_0_0_0)
    (extractStridedSlice S16x20x1 ![0, 0, 1] res slices_S16x20x2_S16x20x1_0_0_1)
    (extractStridedSlice S16x20x1 ![0, 0, 1] org slices_S16x20x2_S16x20x1_0_0_1)

/-- The batch entry of every point. -/
def batches : IVec S5120 32 :=
  shapeCast _ (broadcastInDim S16x320 ![0] bcast_S16_S16x320_0 (iotaInDim S16 32 0)) shapeCasts_S16x320_S5120

/-- The sub-image of every point. -/
def subs : IVec S5120 32 :=
  shapeCast _ (broadcastInDim S16x320 ![0, 1] bcast_S1x320_S16x320_0_1 (shapeCast _ (shapeCast _ (broadcastInDim S20x16 ![0] bcast_S20_S20x16_0 (iotaInDim S20 32 0)) shapeCasts_S20x16_S320) shapeCasts_S320_S1x320)) shapeCasts_S16x320_S5120

/-- The number of every point in its sub-image. -/
def nums : IVec S5120 32 :=
  shapeCast _ (broadcastInDim S320x16 ![0, 1] bcast_S1x16_S320x16_0_1 (shapeCast _ (iotaInDim S16 32 0) shapeCasts_S16_S1x16)) shapeCasts_S320x16_S5120

/-- A coordinate clipped to `[0, 63]`. -/
def clip (v : IVec S5120 32) : IVec S5120 32 :=
  minsi (broadcastInDim S5120 ![] bcast_S_S5120 (id (constantI S_ 32 63#32))) (maxsi (broadcastInDim S5120 ![] bcast_S_S5120 (id (constantI S_ 32 0#32))) v)

/-- One column of the addresses: a negative index counts from the end of an axis of length `n`. -/
def wrapped (n : BitVec 32) (v : IVec S5120 32) : IVec S5120x1 32 :=
  broadcastInDim S5120x1 ![0] bcast_S5120_S5120x1_0
    (select (cmpi .slt v (broadcastInDim S5120 ![] bcast_S_S5120 (constantI S_ 32 0#32)))
      (addi v (broadcastInDim S5120 ![] bcast_S_S5120 (constantI S_ 32 n))) v)

/-- The addresses: batch entry, sub-image, clipped row, clipped column, number of the point. -/
def addresses (row col : IVec S5120 32) : IVec S5120x5 32 :=
  concatenate S5120x5 1 [⟨S5120x1, wrapped 16#32 batches⟩, ⟨S5120x1, wrapped 20#32 subs⟩, ⟨S5120x1, wrapped 64#32 (clip row)⟩,
    ⟨S5120x1, wrapped 64#32 (clip col)⟩, ⟨S5120x1, wrapped 16#32 nums⟩] concatenates_S5120x1_S5120x1_S5120x1_S5120x1_S5120x1_S5120x5_d1

/-- The updates: one where row and column are inside `[0, 64)`. -/
def updates (row col : IVec S5120 32) : IVec S5120 32 :=
  extui 32 (andi (andi (andi (cmpi .sge row (broadcastInDim S5120 ![] bcast_S_S5120 (constantI S_ 32 0#32)))
    (cmpi .slt row (broadcastInDim S5120 ![] bcast_S_S5120 (constantI S_ 32 64#32))))
    (cmpi .sge col (broadcastInDim S5120 ![] bcast_S_S5120 (constantI S_ 32 0#32))))
    (cmpi .slt col (broadcastInDim S5120 ![] bcast_S_S5120 (constantI S_ 32 64#32)))) natLt_1_32

/-- The scatter of the updates into zeros, by maximum. -/
def scattered (row col : IVec S5120 32) : IVec S16x20x64x64x16 32 :=
  Host.scatter scatter_S16x20x64x64x16_S5120x5_S5120_n_01234_01234_1 IntOp.maxsi
    (broadcastInDim S16x20x64x64x16 ![] bcast_S_S16x20x64x64x16 (constantI S_ 32 0#32)) (addresses row col) (updates row col)

/-- The reference's result is the scatter, as floats. -/
theorem result_stages (m : (ℓ : Loc nD τ sig) → Buf (Elt Ideal) ℓ) (c : Dev nD) :
    Cert.ReferenceIdeal.Value.res_main_v81 m c
      = (sitofp .f32 (scattered
          (rows (m ((c.tc : Thread nD τ).loc main_arg0)) (m ((c.tc : Thread nD τ).loc main_arg1)) (m ((c.tc : Thread nD τ).loc main_arg2)))
          (cols (m ((c.tc : Thread nD τ).loc main_arg0)) (m ((c.tc : Thread nD τ).loc main_arg1)) (m ((c.tc : Thread nD τ).loc main_arg2))))
          : FVec Ideal S16x20x64x64x16 .f32) := by
  unfold Cert.ReferenceIdeal.Value.res_main_v81
  rfl

/-! ## The stages at an update -/

/-- The update of point `p` of sub-image `(b, s)`. -/
def updateOf (b : Fin 16) (s : Fin 20) (p : Fin 16) : Fin 5120 := ⟨(b.val * 20 + s.val) * 16 + p.val, by omega⟩

/-- The row of an update is the row of its point. -/
theorem rows_at (x : FVec Ideal S16x20x32 .f32) (res org : FVec Ideal S16x20x2 .f32) (b : Fin 16) (s : Fin 20) (p : Fin 16) :
    rows x res org (ix1 (updateOf b s p)) = rowOf x res org b s p := by
  have e : (⟨2 * p.val + 1, by omega⟩ : Fin 32) = ⟨p.val * 2 + 1, by omega⟩ := Fin.ext (by simp only; omega)
  unfold rowOf
  rw [e]
  pointwise [rows, coordsOf, gridCoord, updateOf]
  rfl

/-- The column of an update is the column of its point. -/
theorem cols_at (x : FVec Ideal S16x20x32 .f32) (res org : FVec Ideal S16x20x2 .f32) (b : Fin 16) (s : Fin 20) (p : Fin 16) :
    cols x res org (ix1 (updateOf b s p)) = colOf x res org b s p := by
  have e : (⟨2 * p.val, by omega⟩ : Fin 32) = ⟨p.val * 2, by omega⟩ := Fin.ext (by simp only; omega)
  unfold colOf
  rw [e]
  pointwise [cols, coordsOf, gridCoord, updateOf]
  rfl

/-- The batch entry of update `n`. -/
theorem batches_at (n : Fin 5120) : (batches (ix1 n)).toInt = ((n.val / 320 : Nat) : Int) := by
  rw [← ofNat_toInt (n.val / 320) (by omega)]
  congr 1
  pointwise [batches]

/-- The sub-image of update `n`. -/
theorem subs_at (n : Fin 5120) : (subs (ix1 n)).toInt = ((n.val % 320 / 16 : Nat) : Int) := by
  rw [← ofNat_toInt (n.val % 320 / 16) (by omega)]
  congr 1
  pointwise [subs]

/-- The number of update `n` in its sub-image. -/
theorem nums_at (n : Fin 5120) : (nums (ix1 n)).toInt = ((n.val % 16 : Nat) : Int) := by
  rw [← ofNat_toInt (n.val % 16) (by omega)]
  congr 1
  pointwise [nums]

/-- A clipped coordinate, read as an integer. -/
theorem clip_at (v : IVec S5120 32) (n : Fin 5120) : (clip v (ix1 n)).toInt = min 63 (max 0 (v (ix1 n)).toInt) := by
  have e : clip v (ix1 n) = IntOp.minsi 63#32 (IntOp.maxsi 0#32 (v (ix1 n))) := by pointwise [clip]; rfl
  have e63 : (63#32).toInt = 63 := by decide
  have e0 : (0#32).toInt = 0 := by decide
  rw [e, minsi_toInt, maxsi_toInt, e63, e0]

/-- An index that is not negative is not wrapped. -/
theorem wrapped_at (k : BitVec 32) (v : IVec S5120 32) (n : Fin 5120) (h : 0 ≤ (v (ix1 n)).toInt) :
    wrapped k v (ix2 n 0) = v (ix1 n) := by
  have e : wrapped k v (ix2 n 0)
      = Scalar.select (IntOp.cmpi CmpIPredicate.slt (v (ix1 n)) 0#32) (IntOp.addi (v (ix1 n)) k) (v (ix1 n)) := by
    pointwise [wrapped]
  have e0 : (0#32).toInt = 0 := by decide
  have hs : (v (ix1 n)).slt 0#32 = false := by
    rw [BitVec.slt_eq_decide, e0]; exact decide_eq_false (by omega)
  rw [e]
  unfold IntOp.cmpi
  dsimp only
  rw [hs]
  rfl

/-- The five words of the address of update `n`, read as integers. -/
theorem addresses_at (row col : IVec S5120 32) (n : Fin 5120) :
    (addresses row col (ix2 n 0)).toInt = ((n.val / 320 : Nat) : Int)
      ∧ (addresses row col (ix2 n 1)).toInt = ((n.val % 320 / 16 : Nat) : Int)
      ∧ (addresses row col (ix2 n 2)).toInt = min 63 (max 0 (row (ix1 n)).toInt)
      ∧ (addresses row col (ix2 n 3)).toInt = min 63 (max 0 (col (ix1 n)).toInt)
      ∧ (addresses row col (ix2 n 4)).toInt = ((n.val % 16 : Nat) : Int) := by
  have a0 : addresses row col (ix2 n 0) = wrapped 16#32 batches (ix2 n 0) := by pointwise [addresses]
  have a1 : addresses row col (ix2 n 1) = wrapped 20#32 subs (ix2 n 0) := by pointwise [addresses]
  have a2 : addresses row col (ix2 n 2) = wrapped 64#32 (clip row) (ix2 n 0) := by pointwise [addresses]
  have a3 : addresses row col (ix2 n 3) = wrapped 64#32 (clip col) (ix2 n 0) := by pointwise [addresses]
  have a4 : addresses row col (ix2 n 4) = wrapped 16#32 nums (ix2 n 0) := by pointwise [addresses]
  refine ⟨?_, ?_, ?_, ?_, ?_⟩
  · rw [a0, wrapped_at _ _ _ (by rw [batches_at]; omega), batches_at]
  · rw [a1, wrapped_at _ _ _ (by rw [subs_at]; omega), subs_at]
  · rw [a2, wrapped_at _ _ _ (by rw [clip_at]; omega), clip_at]
  · rw [a3, wrapped_at _ _ _ (by rw [clip_at]; omega), clip_at]
  · rw [a4, wrapped_at _ _ _ (by rw [nums_at]; omega), nums_at]

/-- The update is one where row and column are inside, zero elsewhere. -/
theorem updates_at (row col : IVec S5120 32) (n : Fin 5120) :
    (updates row col (ix1 n)).toInt
      = if (0 ≤ (row (ix1 n)).toInt ∧ (row (ix1 n)).toInt < 64) ∧ 0 ≤ (col (ix1 n)).toInt ∧ (col (ix1 n)).toInt < 64 then 1 else 0 := by
  have e : updates row col (ix1 n) = BitVec.setWidth 32 (BitVec.ofBool
      (decide ((0 ≤ (row (ix1 n)).toInt ∧ (row (ix1 n)).toInt < 64) ∧ 0 ≤ (col (ix1 n)).toInt ∧ (col (ix1 n)).toInt < 64))) := by
    pointwise [updates]
    have ha : ∀ a b c d : BitVec 1, IntOp.andi (IntOp.andi (IntOp.andi a b) c) d = IntOp.andi (IntOp.andi a b) (IntOp.andi c d) := by
      intro a b c d; unfold IntOp.andi; exact BitVec.and_assoc _ _ _
    rw [ha]
    change BitVec.setWidth 32 (IntOp.andi (insideBit (row (ix1 n))) (insideBit (col (ix1 n)))) = _
    have hb : ∀ a b : Bool, IntOp.andi (BitVec.ofBool a) (BitVec.ofBool b) = BitVec.ofBool (a && b) := by decide
    rw [insideBit_eq, insideBit_eq, hb, ← Bool.decide_and]
  rw [e, widen_toInt]
  simp only [decide_eq_true_eq]

/-! ## The scatter -/

/-- The five axes of the operand are the five words of an address: update `n` starts, on axis `a`, at word `a`. -/
theorem start_at (idx : IVec S5120x5 32) (n : Fin 5120) (a : Fin 5) :
    scatter_S16x20x64x64x16_S5120x5_S5120_n_01234_01234_1.start (ix1 n) idx a = (idx (ix2 n a)).toInt := by
  fin_cases a <;> (unfold ScatterDims.start; rw [dif_pos (by decide)]; congr 2; funext q; fin_cases q <;> rfl)

/-- The updates have no window axes. -/
theorem window_at (n : Fin 5120) (a : Fin 5) :
    scatter_S16x20x64x64x16_S5120x5_S5120_n_01234_01234_1.window (ix1 n) a = 0 := by
  fin_cases a <;> rfl

/-- A fold that changes its value only at members that hit, where one member alone can hit, is one change or none. -/
theorem foldl_one {ι α : Type} (hit : ι → Prop) [DecidablePred hit] (f : α → ι → α) (n₀ : ι) (h : ∀ n, hit n → n = n₀) :
    ∀ (l : List ι), l.Nodup → n₀ ∈ l → ∀ a, l.foldl (fun a n => if hit n then f a n else a) a = if hit n₀ then f a n₀ else a := by
  have miss : ∀ (l : List ι), n₀ ∉ l → ∀ a, l.foldl (fun a n => if hit n then f a n else a) a = a := by
    intro l
    induction l with
    | nil => intro _ a; rfl
    | cons x l ih =>
      intro hl a
      have hx : ¬ hit x := fun hx => hl (by rw [h x hx]; exact List.mem_cons_self)
      rw [List.foldl_cons, if_neg hx]
      exact ih (fun hm => hl (List.mem_cons_of_mem _ hm)) a
  intro l
  induction l with
  | nil => intro _ hm; cases hm
  | cons x l ih =>
    intro hn hm a
    rw [List.foldl_cons]
    by_cases hx : x = n₀
    · subst hx
      exact miss l (List.nodup_cons.mp hn).1 _
    · rw [if_neg fun hh => hx (h x hh)]
      exact ih (List.nodup_cons.mp hn).2 ((List.mem_cons.mp hm).resolve_left (Ne.symm hx)) a

/-- Update `n` lands at `ι` when its five address words, read signed, are the coordinates of `ι`. -/
theorem lands (idx : IVec S5120x5 32) (n : Fin 5120) (ι : S16x20x64x64x16.Idx) :
    scatter_S16x20x64x64x16_S5120x5_S5120_n_01234_01234_1.resultIdx? (ix1 n) idx = some ι
      ↔ ∀ a : Fin 5, (idx (ix2 n a)).toInt = ((ι a).val : Int) := by
  rw [Routing.resultIdx?_eq_some]
  have e : ∀ a : Fin 5, scatter_S16x20x64x64x16_S5120x5_S5120_n_01234_01234_1.start (ix1 n) idx a
      + ((scatter_S16x20x64x64x16_S5120x5_S5120_n_01234_01234_1.window (ix1 n) a : Nat) : Int) = (idx (ix2 n a)).toInt := by
    intro a
    rw [start_at, window_at]
    exact Int.add_zero _
  exact ⟨fun q a => (e a).symm.trans (q a), fun q a => (e a).trans (q a)⟩

/-- Only the update of point `p` of sub-image `(b, s)` can land at `(b, s, h, w, p)`, and it does when its clipped row
and column are `h` and `w`. -/
theorem lands_iff (row col : IVec S5120 32) (n : Fin 5120) (b : Fin 16) (s : Fin 20) (h w : Fin 64) (p : Fin 16) :
    scatter_S16x20x64x64x16_S5120x5_S5120_n_01234_01234_1.resultIdx? (ix1 n) (addresses row col) = some (ix5 b s h w p)
      ↔ n = updateOf b s p ∧ min 63 (max 0 (row (ix1 n)).toInt) = (h.val : Int) ∧ min 63 (max 0 (col (ix1 n)).toInt) = (w.val : Int) := by
  obtain ⟨e0, e1, e2, e3, e4⟩ := addresses_at row col n
  rw [lands]
  constructor
  · intro q
    have q0 : ((n.val / 320 : Nat) : Int) = (b.val : Int) := e0.symm.trans (q 0)
    have q1 : ((n.val % 320 / 16 : Nat) : Int) = (s.val : Int) := e1.symm.trans (q 1)
    have q4 : ((n.val % 16 : Nat) : Int) = (p.val : Int) := e4.symm.trans (q 4)
    refine ⟨Fin.ext ?_, e2.symm.trans (q 2), e3.symm.trans (q 3)⟩
    show n.val = (b.val * 20 + s.val) * 16 + p.val
    omega
  · rintro ⟨hn, hh, hw⟩ a
    have hv : n.val = (b.val * 20 + s.val) * 16 + p.val := congrArg Fin.val hn
    match a with
    | ⟨0, _⟩ => exact e0.trans (by show _ = (b.val : Int); omega)
    | ⟨1, _⟩ => exact e1.trans (by show _ = (s.val : Int); omega)
    | ⟨2, _⟩ => exact e2.trans hh
    | ⟨3, _⟩ => exact e3.trans hw
    | ⟨4, _⟩ => exact e4.trans (by show _ = (p.val : Int); omega)

/-- The scatter at `(b, s, h, w, p)` is one where the row and the column of the point are `h` and `w`, zero elsewhere. -/
theorem scattered_at (row col : IVec S5120 32) (b : Fin 16) (s : Fin 20) (h w : Fin 64) (p : Fin 16) :
    (scattered row col (ix5 b s h w p)).toInt
      = if (row (ix1 (updateOf b s p))).toInt = (h.val : Int) ∧ (col (ix1 (updateOf b s p))).toInt = (w.val : Int) then 1 else 0 := by
  have hz : (broadcastInDim S16x20x64x64x16 ![] bcast_S_S16x20x64x64x16 (constantI S_ 32 0#32)) (ix5 b s h w p) = 0#32 := by pointwise
  have e0 : (0#32).toInt = 0 := by decide
  unfold scattered
  rw [Routing.scatter_at, hz,
    foldl_one (fun n => scatter_S16x20x64x64x16_S5120x5_S5120_n_01234_01234_1.resultIdx? (S5120.rowMajor.symm n) (addresses row col)
        = some (ix5 b s h w p)) (fun a n => IntOp.maxsi a (updates row col (S5120.rowMajor.symm n))) (S5120.rowMajor (ix1 (updateOf b s p)))
      (fun n hn => by
        have hj := eq_ix1 (S5120.rowMajor.symm n)
        rw [hj] at hn
        rw [← ((lands_iff row col _ b s h w p).mp hn).1]
        exact ((congrArg S5120.rowMajor hj).symm.trans (S5120.rowMajor.apply_symm_apply n)).symm)
      _ (List.nodup_finRange _) (List.mem_finRange _)]
  rw [Equiv.symm_apply_apply]
  have hu := updates_at row col (updateOf b s p)
  have hl := lands_iff row col (updateOf b s p) b s h w p
  have hh := h.isLt
  have hw := w.isLt
  by_cases hc : min 63 (max 0 (row (ix1 (updateOf b s p))).toInt) = (h.val : Int)
      ∧ min 63 (max 0 (col (ix1 (updateOf b s p))).toInt) = (w.val : Int)
  · rw [if_pos (hl.mpr ⟨rfl, hc⟩), maxsi_toInt, e0, hu]
    by_cases hi : (row (ix1 (updateOf b s p))).toInt = (h.val : Int) ∧ (col (ix1 (updateOf b s p))).toInt = (w.val : Int)
    · rw [if_pos hi, if_pos (by omega)]; rfl
    · rw [if_neg hi, if_neg (by omega)]; rfl
  · rw [if_neg fun q => hc (hl.mp q).2, if_neg (by omega)]; rfl

/-- The reference's result is the picture of every point, at every place. -/
theorem result_at (m : (ℓ : Loc nD τ sig) → Buf (Elt Ideal) ℓ) (c : Dev nD) (b : Fin 16) (s : Fin 20) (h w : Fin 64) (p : Fin 16) :
    Cert.ReferenceIdeal.Value.res_main_v81 m c (ix5 b s h w p)
      = pic (m ((c.tc : Thread nD τ).loc main_arg0)) (m ((c.tc : Thread nD τ).loc main_arg1)) (m ((c.tc : Thread nD τ).loc main_arg2)) b s h w p := by
  rw [result_stages]
  refine (congrArg (fun z : Int => ((z : ℝ) : EReal)) (scattered_at _ _ b s h w p)).trans ?_
  rw [rows_at, cols_at]
  unfold pic hit
  split <;> simp

end Cert.Proof.Raster.Ref

end
-- ==== Proof.lean ====
/-
  The five claims about the rasterizing kernel.

  The kernel terminates and leaves its arguments unchanged, as printed and as idealized; so does the reference; the
  idealized kernel is the kernel's own text; and over the extended reals the kernel and the reference end with equal
  results. The last rests on `Raster.result_at` and `Raster.Ref.result_at`: both results are `Raster.pic`, the picture of
  every point at every place.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Raster.KernelValue
public import proofs.«01_k».proof.Proof.Raster.Reference
public import Idealize.ShloMosaic.Lib.Claim
public import Idealize.ShloMosaic.Lib.Quiescent
public import Idealize.ShloMosaic.Adequacy
public import Idealize.ShloMosaic.Init

@[expose] public section

noncomputable section

set_option maxRecDepth 16384

namespace Cert.Proof

open Idealize.ShloMosaic Idealize.ShloMosaic.Tactic Idealize.SL.Sem

/-- The reference terminates with its arguments unchanged and every counter at zero: its run, read at the arguments, and
the program declares no semaphore. -/
theorem reference_frame : Cert.quiescent_ReferenceIdeal (hReferenceIdeal := Cert.ReferenceIdeal.Gen.facts) := fun m ρ _ =>
  θ_run_mono (Cert.ReferenceIdeal.Value.run m ρ) fun r h => ⟨fun c => (h c).2, sem_eq_zero_of_no_sems (by decide) r.2⟩

/-- Over the extended reals, from equal arguments, the kernel and the reference end with equal results. -/
theorem results_equal : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · run_from Cert.ReferenceIdeal.Value.run m' g'
    funext j
    idx_vars j
    refine (Raster.Ref.result_at m' c j0 j1 j2 j3 j4).trans ?_
    rw [(hagree c).1, (hagree c).2.1, (hagree c).2.2]
    exact (Raster.result_at m c j0 j1 j2 j3 j4).symm

/-- The certificate's claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, results_equal⟩

end Cert.Proof

end
